-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x96x128x128 : Shape := ⟨4, ![16, 96, 128, 128]⟩
abbrev S1x96 : Shape := ⟨2, ![1, 96]⟩
abbrev S1 : Shape := ⟨1, ![1]⟩
abbrev S80x96 : Shape := ⟨2, ![80, 96]⟩
abbrev S80 : Shape := ⟨1, ![80]⟩
abbrev S4x96 : Shape := ⟨2, ![4, 96]⟩
abbrev S4 : Shape := ⟨1, ![4]⟩
abbrev S85x96 : Shape := ⟨2, ![85, 96]⟩
abbrev S85 : Shape := ⟨1, ![85]⟩
abbrev S85x1 : Shape := ⟨2, ![85, 1]⟩
abbrev S16x96x16384 : Shape := ⟨3, ![16, 96, 16384]⟩
abbrev S16x85x16384 : Shape := ⟨3, ![16, 85, 16384]⟩
abbrev S2x96x16384 : Shape := ⟨3, ![2, 96, 16384]⟩
abbrev S2x85x16384 : Shape := ⟨3, ![2, 85, 16384]⟩
abbrev S1x16384 : Shape := ⟨2, ![1, 16384]⟩
abbrev S1x96x16384 : Shape := ⟨3, ![1, 96, 16384]⟩
abbrev S96x16384 : Shape := ⟨2, ![96, 16384]⟩
abbrev S85x16384 : Shape := ⟨2, ![85, 16384]⟩
abbrev S81x16384 : Shape := ⟨2, ![81, 16384]⟩
abbrev S1x85x16384 : Shape := ⟨3, ![1, 85, 16384]⟩
abbrev S16x85x128x128 : Shape := ⟨4, ![16, 85, 128, 128]⟩

abbrev nBuf : Space → Nat
  | .hbm => 13
  | .vmem => 6
  | .smem => 0
  | _ => 0

abbrev bufTy : (tb : Table) → Fin (tcTables nBuf tb) → BufTy
  | .hbm, ⟨0, _⟩ => ⟨S16x96x128x128, .f32⟩
  | .hbm, ⟨1, _⟩ => ⟨S1x96, .f32⟩
  | .hbm, ⟨2, _⟩ => ⟨S1, .f32⟩
  | .hbm, ⟨3, _⟩ => ⟨S80x96, .f32⟩
  | .hbm, ⟨4, _⟩ => ⟨S80, .f32⟩
  | .hbm, ⟨5, _⟩ => ⟨S4x96, .f32⟩
  | .hbm, ⟨6, _⟩ => ⟨S4, .f32⟩
  | .hbm, ⟨7, _⟩ => ⟨S85x96, .f32⟩
  | .hbm, ⟨8, _⟩ => ⟨S85, .f32⟩
  | .hbm, ⟨9, _⟩ => ⟨S85x1, .f32⟩
  | .hbm, ⟨10, _⟩ => ⟨S16x96x16384, .f32⟩
  | .hbm, ⟨11, _⟩ => ⟨S16x85x16384, .f32⟩
  | .hbm, ⟨12, _⟩ => ⟨S16x85x128x128, .f32⟩
  | .local _ .vmem, ⟨0, _⟩ => ⟨S2x96x16384, .f32⟩
  | .local _ .vmem, ⟨1, _⟩ => ⟨S2x96x16384, .f32⟩
  | .local _ .vmem, ⟨2, _⟩ => ⟨S85x96, .f32⟩
  | .local _ .vmem, ⟨3, _⟩ => ⟨S85x1, .f32⟩
  | .local _ .vmem, ⟨4, _⟩ => ⟨S2x85x16384, .f32⟩
  | .local _ .vmem, ⟨5, _⟩ => ⟨S2x85x16384, .f32⟩
  | _, _ => ⟨S16x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x96x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S85x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S85x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x85x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x96x128x128 : Shape := ⟨4, ![16, 96, 128, 128]⟩
abbrev S1x96 : Shape := ⟨2, ![1, 96]⟩
abbrev S1 : Shape := ⟨1, ![1]⟩
abbrev S80x96 : Shape := ⟨2, ![80, 96]⟩
abbrev S80 : Shape := ⟨1, ![80]⟩
abbrev S4x96 : Shape := ⟨2, ![4, 96]⟩
abbrev S4 : Shape := ⟨1, ![4]⟩
abbrev S128 : Shape := ⟨1, ![128]⟩
abbrev S1x128 : Shape := ⟨2, ![1, 128]⟩
abbrev S128x1 : Shape := ⟨2, ![128, 1]⟩
abbrev S4x16x128x128 : Shape := ⟨4, ![4, 16, 128, 128]⟩
abbrev S16x4x128x128 : Shape := ⟨4, ![16, 4, 128, 128]⟩
abbrev S1x4x1x1 : Shape := ⟨4, ![1, 4, 1, 1]⟩
abbrev S16x1x128x128 : Shape := ⟨4, ![16, 1, 128, 128]⟩
abbrev S16x128x128 : Shape := ⟨3, ![16, 128, 128]⟩
abbrev S1x1x128 : Shape := ⟨3, ![1, 1, 128]⟩
abbrev S_ : Shape := ⟨0, ![]⟩
abbrev S1x128x1 : Shape := ⟨3, ![1, 128, 1]⟩
abbrev S1x16x128x128 : Shape := ⟨4, ![1, 16, 128, 128]⟩
abbrev S1x1x1x1 : Shape := ⟨4, ![1, 1, 1, 1]⟩
abbrev S80x16x128x128 : Shape := ⟨4, ![80, 16, 128, 128]⟩
abbrev S16x80x128x128 : Shape := ⟨4, ![16, 80, 128, 128]⟩
abbrev S1x80x1x1 : Shape := ⟨4, ![1, 80, 1, 1]⟩
abbrev S16x85x128x128 : Shape := ⟨4, ![16, 85, 128, 128]⟩

abbrev nBuf : Space → Nat
  | .hbm => 70
  | .vmem => 0
  | .smem => 0
  | _ => 0

abbrev bufTy : (tb : Table) → Fin (tcTables nBuf tb) → BufTy
  | .hbm, ⟨0, _⟩ => ⟨S16x96x128x128, .f32⟩
  | .hbm, ⟨1, _⟩ => ⟨S1x96, .f32⟩
  | .hbm, ⟨2, _⟩ => ⟨S1, .f32⟩
  | .hbm, ⟨3, _⟩ => ⟨S80x96, .f32⟩
  | .hbm, ⟨4, _⟩ => ⟨S80, .f32⟩
  | .hbm, ⟨5, _⟩ => ⟨S4x96, .f32⟩
  | .hbm, ⟨6, _⟩ => ⟨S4, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128x1, .f32⟩
  | .hbm, ⟨11, _⟩ => ⟨S4x16x128x128, .f32⟩
  | .hbm, ⟨12, _⟩ => ⟨S16x4x128x128, .f32⟩
  | .hbm, ⟨13, _⟩ => ⟨S1x4x1x1, .f32⟩
  | .hbm, ⟨14, _⟩ => ⟨S16x4x128x128, .f32⟩
  | .hbm, ⟨15, _⟩ => ⟨S16x4x128x128, .f32⟩
  | .hbm, ⟨16, _⟩ => ⟨S16x1x128x128, .f32⟩
  | .hbm, ⟨17, _⟩ => ⟨S16x128x128, .f32⟩
  | .hbm, ⟨18, _⟩ => ⟨S1x1x128, .f32⟩
  | .hbm, ⟨19, _⟩ => ⟨S16x128x128, .f32⟩
  | .hbm, ⟨20, _⟩ => ⟨S16x128x128, .f32⟩
  | .hbm, ⟨21, _⟩ => ⟨S16x128x128, .f32⟩
  | .hbm, ⟨22, _⟩ => ⟨S16x128x128, .f32⟩
  | .hbm, ⟨23, _⟩ => ⟨S_, .f32⟩
  | .hbm, ⟨24, _⟩ => ⟨S16x128x128, .f32⟩
  | .hbm, ⟨25, _⟩ => ⟨S16x128x128, .f32⟩
  | .hbm, ⟨26, _⟩ => ⟨S_, .f32⟩
  | .hbm, ⟨27, _⟩ => ⟨S16x128x128, .f32⟩
  | .hbm, ⟨28, _⟩ => ⟨S16x128x128, .f32⟩
  | .hbm, ⟨29, _⟩ => ⟨S16x1x128x128, .f32⟩
  | .hbm, ⟨30, _⟩ => ⟨S16x128x128, .f32⟩
  | .hbm, ⟨31, _⟩ => ⟨S1x128x1, .f32⟩
  | .hbm, ⟨32, _⟩ => ⟨S16x128x128, .f32⟩
  | .hbm, ⟨33, _⟩ => ⟨S16x128x128, .f32⟩
  | .hbm, ⟨34, _⟩ => ⟨S16x128x128, .f32⟩
  | .hbm, ⟨35, _⟩ => ⟨S16x128x128, .f32⟩
  | .hbm, ⟨36, _⟩ => ⟨S_, .f32⟩
  | .hbm, ⟨37, _⟩ => ⟨S16x128x128, .f32⟩
  | .hbm, ⟨38, _⟩ => ⟨S16x128x128, .f32⟩
  | .hbm, ⟨39, _⟩ => ⟨S_, .f32⟩
  | .hbm, ⟨40, _⟩ => ⟨S16x128x128, .f32⟩
  | .hbm, ⟨41, _⟩ => ⟨S16x128x128, .f32⟩
  | .hbm, ⟨42, _⟩ => ⟨S16x1x128x128, .f32⟩
  | .hbm, ⟨43, _⟩ => ⟨S16x128x128, .f32⟩
  | .hbm, ⟨44, _⟩ => ⟨S16x128x128, .f32⟩
  | .hbm, ⟨45, _⟩ => ⟨S_, .f32⟩
  | .hbm, ⟨46, _⟩ => ⟨S16x128x128, .f32⟩
  | .hbm, ⟨47, _⟩ => ⟨S16x128x128, .f32⟩
  | .hbm, ⟨48, _⟩ => ⟨S16x1x128x128, .f32⟩
  | .hbm, ⟨49, _⟩ => ⟨S16x128x128, .f32⟩
  | .hbm, ⟨50, _⟩ => ⟨S16x128x128, .f32⟩
  | .hbm, ⟨51, _⟩ => ⟨S_, .f32⟩
  | .hbm, ⟨52, _⟩ => ⟨S16x128x128, .f32⟩
  | .hbm, ⟨53, _⟩ => ⟨S16x128x128, .f32⟩
  | .hbm, ⟨54, _⟩ => ⟨S16x1x128x128, .f32⟩
  | .hbm, ⟨55, _⟩ => ⟨S16x1x128x128, .f32⟩
  | .hbm, ⟨56, _⟩ => ⟨S16x1x128x128, .f32⟩
  | .hbm, ⟨57, _⟩ => ⟨S16x1x128x128, .f32⟩
  | .hbm, ⟨58, _⟩ => ⟨S16x4x128x128, .f32⟩
  | .hbm, ⟨59, _⟩ => ⟨S1x16x128x128, .f32⟩
  | .hbm, ⟨60, _⟩ => ⟨S16x1x128x128, .f32⟩
  | .hbm, ⟨61, _⟩ => ⟨S1x1x1x1, .f32⟩
  | .hbm, ⟨62, _⟩ => ⟨S16x1x128x128, .f32⟩
  | .hbm, ⟨63, _⟩ => ⟨S16x1x128x128, .f32⟩
  | .hbm, ⟨64, _⟩ => ⟨S80x16x128x128, .f32⟩
  | .hbm, ⟨65, _⟩ => ⟨S16x80x128x128, .f32⟩
  | .hbm, ⟨66, _⟩ => ⟨S1x80x1x1, .f32⟩
  | .hbm, ⟨67, _⟩ => ⟨S16x80x128x128, .f32⟩
  | .hbm, ⟨68, _⟩ => ⟨S16x80x128x128, .f32⟩
  | .hbm, ⟨69, _⟩ => ⟨S16x85x128x128, .f32⟩
  | _, _ => ⟨S16x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Proof.Coords.lean ====
/-
  THE PIXEL COORDINATES the kernel body computes. The body numbers the 16384 pixels of an image in one row and recovers
  the column and the row of pixel `p` in integer words: the column is the remainder of `p` by 128, the row is the quotient,
  both printed with the sign repairs of a floor division. Here: for a pixel number below 16384 the repairs change nothing,
  so the two vectors hold, at `p`, the real numbers `p % 128` and `p / 128`.
-/
module

public import proofs.«01_k».proof.Proof.Gen.KernelIdeal.Skeleton
public import Idealize.ShloMosaic.Lib.Affine
public import Idealize.ShloMosaic.Lib.Pointwise

@[expose] public section

noncomputable section

namespace Cert.KernelIdeal.Coords

open Idealize.ShloMosaic Idealize.SL.Sem
open Cert.KernelIdeal Cert.KernelIdeal.Gen

/-- A pixel number below 16384, written as a 32-bit word, is read back unchanged. -/
theorem toNat_pixel {n : ℕ} (hn : n < 16384) : (BitVec.ofNat 32 n).toNat = n := by
  rw [BitVec.toNat_ofNat]; omega

/-- The signed remainder of a pixel number by 128 is the word of `n % 128`. -/
theorem rem_word {n : ℕ} (hn : n < 16384) :
    IntOp.remsi .vector (BitVec.ofNat 32 n) 128#32 = BitVec.ofNat 32 (n % 128) := by
  apply BitVec.eq_of_toNat_eq
  have h := IntOp.toNat_remsi .vector (x := BitVec.ofNat 32 n) (by rw [toNat_pixel hn]; omega) 128 (by omega) (by omega)
  rw [toNat_pixel hn] at h
  rw [toNat_pixel (by omega : n % 128 < 16384)]
  exact h

/-- The signed quotient of a pixel number by 128 is the word of `n / 128`. -/
theorem div_word {n : ℕ} (hn : n < 16384) :
    IntOp.divsi .vector (BitVec.ofNat 32 n) 128#32 = BitVec.ofNat 32 (n / 128) := by
  have hc : ¬ IntOp.SDivCorner (BitVec.ofNat 32 n) 128#32 :=
    IntOp.not_corner_of_pos (by decide)
  have hm : (BitVec.ofNat 32 n).msb = false := by
    rw [BitVec.msb_eq_false_iff_two_mul_lt, toNat_pixel hn]; omega
  have hk : (128#32 : BitVec 32).msb = false := by decide
  rw [IntOp.divsi, if_neg hc, BitVec.sdiv_eq, hm, hk]
  apply BitVec.eq_of_toNat_eq
  show (BitVec.ofNat 32 n / 128#32).toNat = _
  rw [BitVec.toNat_udiv, toNat_pixel hn, toNat_pixel (by omega : n / 128 < 16384)]
  rfl

/-- A word below 16384 is not negative. -/
theorem not_slt_zero {n : ℕ} (hn : n < 16384) : IntOp.cmpi .slt (BitVec.ofNat 32 n) 0#32 = 0#1 := by
  have h : ¬ IntOp.cmpi .slt (BitVec.ofNat 32 n) 0#32 = 1#1 := by
    rw [IntOp.cmpi_slt, BitVec.toInt_eq_toNat_of_lt (by rw [toNat_pixel hn]; omega)]
    show ¬ ((BitVec.ofNat 32 n).toNat : ℤ) < 0
    omega
  generalize IntOp.cmpi .slt (BitVec.ofNat 32 n) 0#32 = c at h ⊢
  revert c; decide

/-- The signed reading of a pixel number's word is the number. -/
theorem toInt_pixel {n : ℕ} (hn : n < 16384) : (BitVec.ofNat 32 n).toInt = n := by
  rw [BitVec.toInt_eq_toNat_of_lt (by rw [toNat_pixel hn]; omega), toNat_pixel hn]

/-- The column vector at pixel `p` is the real number `p % 128`. -/
theorem col_apply (p : Fin 16384) : k0_pay2 (F := Ideal) (ix2 0 p) = (((p.val % 128 : ℕ) : ℝ) : EReal) := by
  have hp := p.isLt
  pointwise [k0_pay2]
  rw [show Scalar.select (Scalar.cmpi .eq 128#32 0#32) 1#32 128#32 = 128#32 from by decide, rem_word hp,
    not_slt_zero (by omega : p.val % 128 < 16384),
    show IntOp.xori 0#1 (Scalar.cmpi .slt 128#32 0#32) = 0#1 from by decide]
  generalize IntOp.cmpi .ne (BitVec.ofNat 32 (p.val % 128)) 0#32 = c
  rw [show IntOp.andi 0#1 c = 0#1 from by revert c; decide]
  show (((BitVec.ofNat 32 (p.val % 128)).toInt : ℝ) : EReal) = _
  rw [toInt_pixel (by omega)]
  norm_cast

/-- The row vector at pixel `p` is the real number `p / 128`. -/
theorem row_apply (p : Fin 16384) : k0_pay3 (F := Ideal) (ix2 0 p) = (((p.val / 128 : ℕ) : ℝ) : EReal) := by
  have hp := p.isLt
  pointwise [k0_pay3]
  rw [rem_word hp, div_word hp, not_slt_zero hp]
  have key : IntOp.andi (IntOp.cmpi .ne
        (IntOp.subi (BitVec.setWidth 32 (IntOp.cmpi .sgt (BitVec.ofNat 32 p.val) 0#32)) (BitVec.setWidth 32 0#1))
        (Scalar.subi (Scalar.extui (Scalar.cmpi .sgt 128#32 0#32)) (Scalar.extui (Scalar.cmpi .slt 128#32 0#32))))
      (IntOp.cmpi .ne (BitVec.ofNat 32 (p.val % 128)) 0#32) = 0#1 := by
    rcases Nat.eq_zero_or_pos p.val with h | h
    · rw [h]; decide
    · have h1 : IntOp.cmpi .sgt (BitVec.ofNat 32 p.val) 0#32 = 1#1 := by
        rw [IntOp.cmpi_sgt, toInt_pixel hp]
        show (0 : ℤ) < _
        omega
      rw [h1]
      generalize IntOp.cmpi .ne (BitVec.ofNat 32 (p.val % 128)) 0#32 = c
      revert c; decide
  rw [key]
  show (((BitVec.ofNat 32 (p.val / 128)).toInt : ℝ) : EReal) = _
  rw [toInt_pixel (by omega)]
  norm_cast

end Cert.KernelIdeal.Coords

end
-- ==== Proof.Head.lean ====
/-
  WHAT ONE OUTPUT CHANNEL IS, in plain mathematics on the extended reals. The head's 85 channels are 1 score channel,
  80 class channels and 4 box channels. `y` is the value of the 1×1 convolution with its bias at a pixel; `act` is what the
  channel makes of it: scores and classes (channels 0–80) keep `y`; the two box centres (81, 82) are the logistic function
  of `y` times the pixel's column and row; the two box sizes (83, 84) are 32 times the exponential of `y`. `head` is the
  whole result: the three groups' weights and biases stacked (`weight`, `bias`), the convolution, and `act`.
-/
module

public import Idealize.ShloMosaic.PureOps.Ideal
public import Idealize.ShloMosaic.Lib.Pointwise

@[expose] public section

noncomputable section

namespace Cert.Head

open Idealize.ShloMosaic

/-- What channel `o` makes of its convolution value `y` at the pixel in column `col` and row `row`. -/
def act (col row : ℕ) (o : ℕ) (y : EReal) : EReal :=
  if o < 81 then y
  else if o = 81 then Ideal.logistic (((col : ℝ) : EReal) * y)
  else if o = 82 then Ideal.logistic (((row : ℝ) : EReal) * y)
  else ((32 : ℝ) : EReal) * Ideal.exp y

/-- A score or class channel keeps its convolution value. -/
theorem act_plain (col row : ℕ) {o : ℕ} (y : EReal) (h : o < 81) : act col row o y = y := if_pos h

/-- Channel 81 uses the column. -/
theorem act_col (col row : ℕ) (y : EReal) : act col row 81 y = Ideal.logistic (((col : ℝ) : EReal) * y) := rfl

/-- Channel 82 uses the row. -/
theorem act_row (col row : ℕ) (y : EReal) : act col row 82 y = Ideal.logistic (((row : ℝ) : EReal) * y) := rfl

/-- Channels 83 and 84 are box sizes. -/
theorem act_size (col row : ℕ) {o : ℕ} (y : EReal) (h : 83 ≤ o) :
    act col row o y = ((32 : ℝ) : EReal) * Ideal.exp y := by
  unfold act
  rw [if_neg (by omega), if_neg (by omega), if_neg (by omega)]

/-- The literal both programs print for the box-size factor is the number 32. -/
theorem ofBits_32 : Ideal.ofBits .f32 0x42000000#32 = ((32 : ℝ) : EReal) := by
  simp [Ideal.ofBits, Ideal.ieee, -EReal.coe_mul]; norm_num

/-- The stacked weights: row 0 is the score's, rows 1–80 the classes', rows 81–84 the boxes'. -/
def weight (ws : (⟨2, ![1, 96]⟩ : Shape).Idx → EReal) (wc : (⟨2, ![80, 96]⟩ : Shape).Idx → EReal)
    (wb : (⟨2, ![4, 96]⟩ : Shape).Idx → EReal) (o : Fin 85) (k : Fin 96) : EReal :=
  if o.val < 1 then ws (ix2 0 k)
  else if h : o.val < 81 then wc (ix2 ⟨o.val - 1, by omega⟩ k)
  else wb (ix2 ⟨o.val - 81, by omega⟩ k)

/-- The stacked biases, in the same order. -/
def bias (bs : (⟨1, ![1]⟩ : Shape).Idx → EReal) (bc : (⟨1, ![80]⟩ : Shape).Idx → EReal)
    (bb : (⟨1, ![4]⟩ : Shape).Idx → EReal) (o : Fin 85) : EReal :=
  if o.val < 1 then bs (ix1 0)
  else if h : o.val < 81 then bc (ix1 ⟨o.val - 1, by omega⟩)
  else bb (ix1 ⟨o.val - 81, by omega⟩)

/-- **The head's result** at image `n`, channel `o`, row `r`, column `c`. -/
def head (x : (⟨4, ![16, 96, 128, 128]⟩ : Shape).Idx → EReal)
    (ws : (⟨2, ![1, 96]⟩ : Shape).Idx → EReal) (bs : (⟨1, ![1]⟩ : Shape).Idx → EReal)
    (wc : (⟨2, ![80, 96]⟩ : Shape).Idx → EReal) (bc : (⟨1, ![80]⟩ : Shape).Idx → EReal)
    (wb : (⟨2, ![4, 96]⟩ : Shape).Idx → EReal) (bb : (⟨1, ![4]⟩ : Shape).Idx → EReal)
    (n : Fin 16) (o : Fin 85) (r c : Fin 128) : EReal :=
  act c.val r.val o.val (∑ k : Fin 96, weight ws wc wb o k * x (ix4 n k r c) + bias bs bc bb o)

end Cert.Head

end
-- ==== Proof.Image.lean ====
/-
  WHAT THE BODY STORES FOR ONE IMAGE. Each of the two images of a grid point goes through the same computation: the
  85×96 weights times the 96×16384 image, plus the bias column, then per channel `Head.act` at the pixel's column and row.
  The body states it twice (once in one payload, once cut into several); `second_eq_first` says they are one function, and
  `image_apply` reads that function at a channel and a pixel.
-/
module

public import proofs.«01_k».proof.Proof.Coords
public import proofs.«01_k».proof.Proof.Head

@[expose] public section

noncomputable section

namespace Cert.KernelIdeal.Image

open Idealize.ShloMosaic Idealize.SL.Sem
open Cert.KernelIdeal Cert.KernelIdeal.Gen Cert.Head

/-- The convolution value of the block: weights' row `o` against the image's pixel `p`, plus the bias. -/
def conv (w : Vec Ideal S85x96 .f32) (x : Vec Ideal S1x96x16384 .f32) (b : Vec Ideal S85x1 .f32)
    (o : Fin 85) (p : Fin 16384) : EReal :=
  ∑ k : Fin 96, w (ix2 o k) * x (ix3 0 k p) + b (ix2 o 0)

/-- The payload holding the product and the bias is `conv`, index by index. -/
theorem conv_apply (w : Vec Ideal S85x96 .f32) (x : Vec Ideal S1x96x16384 .f32) (b : Vec Ideal S85x1 .f32)
    (o : Fin 85) (p : Fin 16384) : k0_pay5 (F := Ideal) w x b (ix2 o p) = conv w x b o p := by
  pointwise [k0_pay5, dot_S85x96_S96x16384_S85x16384_1_0_0_1_n_n]
  rfl

/-- The first image's one payload is the second image's payloads put together: the same operations. -/
theorem second_eq_first (col row : FVec Ideal S1x16384 .f32) (w : Vec Ideal S85x96 .f32) (x : Vec Ideal S1x96x16384 .f32)
    (b : Vec Ideal S85x1 .f32) :
    k0_pay1 (F := Ideal) row (k0_pay5 w x b) (k0_pay6 col w x b) (k0_pay7 w x b) = k0_pay4 (F := Ideal) col row w x b := rfl

/-- **One image's stored block at channel `o`, pixel `p`**: what the channel makes of the convolution value. -/
theorem image_apply (w : Vec Ideal S85x96 .f32) (x : Vec Ideal S1x96x16384 .f32) (b : Vec Ideal S85x1 .f32)
    (o : Fin 85) (p : Fin 16384) :
    k0_pay4 (F := Ideal) k0_pay2 k0_pay3 w x b (ix3 0 o p) = act (p.val % 128) (p.val / 128) o.val (conv w x b o p) := by
  rw [← second_eq_first]
  obtain ⟨o, ho⟩ := o
  rcases (by omega : o < 81 ∨ o = 81 ∨ o = 82 ∨ o = 83 ∨ o = 84) with h | rfl | rfl | rfl | rfl
  · pointwise [k0_pay1, k0_pay6, k0_pay7]
    rw [dif_pos h, conv_apply, act_plain _ _ _ h]
  · pointwise [k0_pay1, k0_pay6, k0_pay7]
    exact congrArg₂ (fun a y => Ideal.logistic (a * y)) (Coords.col_apply p) (conv_apply w x b ⟨81, ho⟩ p)
  · pointwise [k0_pay1, k0_pay6, k0_pay7]
    exact congrArg₂ (fun a y => Ideal.logistic (a * y)) (Coords.row_apply p) (conv_apply w x b ⟨82, ho⟩ p)
  · pointwise [k0_pay1, k0_pay6, k0_pay7]
    rw [act_size _ _ _ (by decide), ← ofBits_32]
    exact congrArg (fun y => Ideal.ofBits .f32 0x42000000#32 * Ideal.exp y) (conv_apply w x b ⟨83, ho⟩ p)
  · pointwise [k0_pay1, k0_pay6, k0_pay7]
    rw [act_size _ _ _ (by decide), ← ofBits_32]
    exact congrArg (fun y => Ideal.ofBits .f32 0x42000000#32 * Ideal.exp y) (conv_apply w x b ⟨84, ho⟩ p)

end Cert.KernelIdeal.Image

end
-- ==== Proof.Array.lean ====
/-
  WHAT THE RESULT ARRAY HOLDS AFTER THE GRID. A grid point stages two images; its two stores, one per image, leave `flat`
  of the staged blocks: at image `i`, channel `o`, pixel `p` the activation of the convolution (`block_apply`). The weights
  and the bias are staged whole at every point, the images and the results two at a time, so what point `t` writes back is
  block `t` of `flat` of the whole arrays, and the eight blocks cover the result array (`final`).
-/
module

public import proofs.«01_k».proof.Proof.Gen.KernelIdeal.Frame
public import proofs.«01_k».proof.Proof.Image
public import Idealize.ShloMosaic.Lib.Pipeline.Value
public import Idealize.ShloMosaic.Lib.Pipeline.ValueKit
public import Idealize.ShloMosaic.Lib.Pointwise

@[expose] public section

noncomputable section

namespace Cert.KernelIdeal.Array

open Idealize.ShloMosaic Idealize.ShloMosaic.TcCoe Idealize.SL.Sem
open Cert.KernelIdeal Cert.KernelIdeal.Gen Cert.KernelIdeal.Image Cert.Head

/-- The head over images laid out flat (channel by pixel), for any number `n` of images: at image `i`, channel `o`,
    pixel `p`, the activation at column `p % 128`, row `p / 128` of the stacked convolution. -/
def flat {n : ℕ} (x : (⟨3, ![n, 96, 16384]⟩ : Shape).Idx → EReal) (w : (⟨2, ![85, 96]⟩ : Shape).Idx → EReal)
    (b : (⟨2, ![85, 1]⟩ : Shape).Idx → EReal) (y : (⟨3, ![n, 85, 16384]⟩ : Shape).Idx) : EReal :=
  act ((y 2).val % 128) ((y 2).val / 128) (y 1).val
    (∑ k : Fin 96, w (ix2 (n0 := 85) (n1 := 96) (y 1) k) * x (ix3 (n0 := n) (n1 := 96) (n2 := 16384) (y 0) k (y 2))
      + b (ix2 (n0 := 85) (n1 := 1) (y 1) 0))

/-- `flat` at one image reads that image alone. -/
theorem flat_congr {n n' : ℕ} (x : (⟨3, ![n, 96, 16384]⟩ : Shape).Idx → EReal) (x' : (⟨3, ![n', 96, 16384]⟩ : Shape).Idx → EReal)
    (w : (⟨2, ![85, 96]⟩ : Shape).Idx → EReal) (b : (⟨2, ![85, 1]⟩ : Shape).Idx → EReal) (i : Fin n) (i' : Fin n')
    (o : Fin 85) (q : Fin 16384) (h : ∀ k : Fin 96, x (ix3 i k q) = x' (ix3 i' k q)) :
    flat x w b (ix3 i o q) = flat x' w b (ix3 i' o q) := by
  refine congrArg (fun s => act (q.val % 128) (q.val / 128) o.val (s + b (ix2 o 0))) ?_
  exact Finset.sum_congr rfl fun k _ => congrArg (w (ix2 o k) * ·) (h k)

/-- The offsets of the loads of all the weights and of the whole bias are zero. -/
theorem zero2 : (![0, 0] : Fin 2 → ℕ) = fun _ => 0 := funext fun a => by fin_cases a <;> rfl

/-- **One of a grid point's two stores**, the one for staged image `i`: what it stores is `flat` of the staged blocks at the
    indices it stores to. -/
theorem store_apply (i : Fin 2) (hx : ∀ a, (![i.val, 0, 0] : Fin 3 → ℕ) a + S1x96x16384.size a ≤ S2x96x16384.size a)
    (hy : ∀ a, (![i.val, 0, 0] : Fin 3 → ℕ) a + S1x85x16384.size a ≤ S2x85x16384.size a)
    (x : Vec Ideal S2x96x16384 .f32) (w : Vec Ideal S85x96 .f32) (b : Vec Ideal S85x1 .f32) (z : S1x85x16384.Idx) :
    k0_pay4 (F := Ideal) k0_pay2 k0_pay3 (View.ld (Val := Elt Ideal) w r0_0)
        (View.ld (Val := Elt Ideal) x (Rect.unit (s := S2x96x16384) ![i.val, 0, 0] S1x96x16384.size hx))
        (View.ld (Val := Elt Ideal) b r0_2) z
      = flat x w b ((Rect.unit (s := S2x85x16384) ![i.val, 0, 0] S1x85x16384.size hy).emb z) := by
  rw [View.ld_unit_zero zero2, View.ld_unit_zero zero2]
  obtain ⟨j, o, q, rfl⟩ : ∃ j : Fin 1, ∃ o : Fin 85, ∃ q : Fin 16384, z = ix3 j o q := ⟨z 0, z 1, z 2, eq_ix3 z⟩
  obtain rfl : j = 0 := Subsingleton.elim _ _
  rw [image_apply]
  have e : (Rect.unit (s := S2x85x16384) ![i.val, 0, 0] S1x85x16384.size hy).emb (ix3 (n0 := 1) (n1 := 85) (n2 := 16384) 0 o q)
      = ix3 (n0 := 2) (n1 := 85) (n2 := 16384) i o q :=
    funext fun a => Fin.ext ((Rect.idx_unit_val _ _ _ _ a).trans (by fin_cases a <;> simp))
  rw [e]
  unfold flat conv
  refine congrArg (fun s => act (q.val % 128) (q.val / 128) o.val (s + b (ix2 o 0))) ?_
  refine Finset.sum_congr rfl fun k _ => congrArg (w (ix2 o k) * ·) ?_
  exact congrArg x (funext fun a => Fin.ext ((Rect.idx_unit_val _ _ _ _ a).trans (by fin_cases a <;> simp)))

/-- **One grid point's result block** is `flat` of the blocks it stages. -/
theorem block_apply (x : Vec Ideal S2x96x16384 .f32) (w : Vec Ideal S85x96 .f32) (b : Vec Ideal S85x1 .f32) :
    out0_3 (F := Ideal) x w b = flat x w b := by
  funext y
  unfold_out out0_3
  refine View.canon_apply_of_pieces (Val := Elt Ideal) (flat x w b) _ ?_ y (cover0_3 _ _ y)
  intro p hp
  simp only [List.mem_cons, List.not_mem_nil, or_false] at hp
  rcases hp with rfl | rfl
  · intro z
    dsimp only
    rw [second_eq_first]
    exact store_apply 1 inb_S2x96x16384_S1x96x16384_1_0_0 inb_S2x85x16384_S1x85x16384_1_0_0 x w b z
  · exact store_apply 0 inb_S2x96x16384_S1x96x16384_0_0_0 inb_S2x85x16384_S1x85x16384_0_0_0 x w b

variable (m : (ℓ : Loc nD τ sig) → Buf (Elt Ideal) ℓ)

/-- Point `t` stages block `t` of the images. -/
theorem index_x : ∀ t : Fin grid0.N, win0_0.index t = ![t.val, 0, 0] := by decide +kernel
/-- Every point stages the weights' one block, -/
theorem index_w : ∀ t : Fin grid0.N, win0_1.index t = ![0, 0] := by decide +kernel
/-- the bias's one block, -/
theorem index_b : ∀ t : Fin grid0.N, win0_2.index t = ![0, 0] := by decide +kernel
/-- and writes block `t` of the results. -/
theorem index_out : ∀ t : Fin grid0.N, win0_3.index t = ![t.val, 0, 0] := by decide +kernel

/-- The weights' block is the whole array of weights, as the grid finds it. -/
theorem weights_block (c : Dev nD) (t : Fin cfg0.N) : iblk m c 1 t = V m c main_v0 := by
  funext j
  refine congrArg (V m c main_v0) (funext fun a => Fin.ext ?_)
  blk_simp [index_w]
  fin_cases a <;> simp

/-- The bias's block is the whole bias. -/
theorem bias_block (c : Dev nD) (t : Fin cfg0.N) : iblk m c 2 t = V m c main_v2 := by
  funext j
  refine congrArg (V m c main_v2) (funext fun a => Fin.ext ?_)
  blk_simp [index_b]
  fin_cases a <;> simp

/-- The images' block at point `t` is images `2 t` and `2 t + 1`. -/
theorem images_block (c : Dev nD) (t : Fin cfg0.N) (i : Fin 2) (n : Fin 16) (hn : n.val = t.val * 2 + i.val) (k : Fin 96)
    (q : Fin 16384) : iblk m c 0 t (ix3 i k q) = V m c main_v3 (ix3 n k q) := by
  refine congrArg (V m c main_v3) (funext fun a => Fin.ext ?_)
  blk_simp [index_x]
  fin_cases a <;> simp [hn]

/-- **The result array after the grid** is `flat` of the arrays the grid finds. -/
theorem final (c : Dev nD) :
    (dats m 0 c).arrAt 3 cfg0.N = flat (V m c main_v3) (V m c main_v0) (V m c main_v2) := by
  refine (dats m 0 c).arrAt_eq_of_covers 3 _ (by decide +kernel) fun t hf y => ?_
  blk_simp
  rw [after0_3, block_apply, weights_block, bias_block]
  obtain ⟨i, o, q, rfl⟩ : ∃ i : Fin 2, ∃ o : Fin 85, ∃ q : Fin 16384, y = ix3 i o q := ⟨y 0, y 1, y 2, eq_ix3 y⟩
  have ht : t.val < 8 := lt_of_lt_of_eq t.isLt N_0
  have hi := i.isLt
  have e : (win0_3.blk t).view.emb (ix3 i o q) = ix3 (n0 := 16) (n1 := 85) (n2 := 16384) ⟨t.val * 2 + i.val, by omega⟩ o q :=
    funext fun a => Fin.ext (by
      blk_simp [index_out]
      fin_cases a <;> simp)
  rw [e]
  exact flat_congr _ _ _ _ _ _ _ _ fun k => images_block m c t i _ rfl k q

end Cert.KernelIdeal.Array

end
-- ==== Proof.Entry.lean ====
/-
  THE HOST OPERATIONS AROUND THE GRID, read at an index: before it, the three groups' weights are stacked, their biases
  stacked and laid out as a column, and the images' rows and columns flattened to pixels; after it, the result's pixels are
  unflattened. So the kernel's result, index by index, is `Head.head` of its seven arguments (`result_apply`).
-/
module

public import proofs.«01_k».proof.Proof.Array

@[expose] public section

noncomputable section

namespace Cert.KernelIdeal.Entry

open Idealize.ShloMosaic Idealize.ShloMosaic.TcCoe Idealize.SL.Sem
open Cert.KernelIdeal Cert.KernelIdeal.Gen Cert.KernelIdeal.Array Cert.Head

variable (m : (ℓ : Loc nD τ sig) → Buf (Elt Ideal) ℓ)

/-- The grid finds the stacked weights, -/
theorem weights_eq (c : Dev nD) : (V m c main_v0 : Vec Ideal S85x96 .f32)
    = concatenate S85x96 0 [⟨S1x96, m ((c : Thread nD τ).loc main_arg1)⟩, ⟨S80x96, m ((c : Thread nD τ).loc main_arg3)⟩,
        ⟨S4x96, m ((c : Thread nD τ).loc main_arg5)⟩] concatenates_S1x96_S80x96_S4x96_S85x96_d0 := by
  unfold V V0 hostOps0
  simp only [List.flatten_cons, List.flatten_nil, List.append_nil]
  after_results_simp
  rfl

/-- the stacked biases as a column, -/
theorem bias_eq (c : Dev nD) : (V m c main_v2 : Vec Ideal S85x1 .f32)
    = broadcastInDim S85x1 ![0] bcast_S85_S85x1_0
        (concatenate S85 0 [⟨S1, m ((c : Thread nD τ).loc main_arg2)⟩, ⟨S80, m ((c : Thread nD τ).loc main_arg4)⟩,
          ⟨S4, m ((c : Thread nD τ).loc main_arg6)⟩] concatenates_S1_S80_S4_S85_d0 : Vec Ideal S85 .f32) := by
  unfold V V0 hostOps0
  simp only [List.flatten_cons, List.flatten_nil, List.append_nil]
  after_results_simp
  rfl

/-- and the images with their rows and columns flattened. -/
theorem images_eq (c : Dev nD) : (V m c main_v3 : Vec Ideal S16x96x16384 .f32)
    = shapeCast S16x96x16384 (m ((c : Thread nD τ).loc main_arg0) : Vec Ideal S16x96x128x128 .f32)
        shapeCasts_S16x96x128x128_S16x96x16384 := by
  unfold V V0 hostOps0
  simp only [List.flatten_cons, List.flatten_nil, List.append_nil]
  after_results_simp
  rfl

/-- The kernel's result is the grid's result array with its pixels unflattened. -/
theorem result_eq (c : Dev nD) : (Pipeline.afterTail₀ cfgs (dats m) 0 (V0 m) [hostOps1] c main_v5 : Vec Ideal S16x85x128x128 .f32)
    = shapeCast S16x85x128x128 (flat (V m c main_v3) (V m c main_v0) (V m c main_v2) : Vec Ideal S16x85x16384 .f32)
        shapeCasts_S16x85x16384_S16x85x128x128 := by
  unfold Pipeline.afterTail₀ hostOps1
  simp only [List.flatten_cons, List.flatten_nil, List.append_nil]
  after_results_simp
  refine congrArg (fun x : Vec Ideal S16x85x16384 .f32 => shapeCast S16x85x128x128 x shapeCasts_S16x85x16384_S16x85x128x128) ?_
  exact (Pipeline.withArrays_arr spec0 launch0.win.arr_inj c (V0 m c) _ 3).trans (final m c)

/-- The stacked weights at an index. -/
theorem weights_apply (c : Dev nD) (o : Fin 85) (k : Fin 96) :
    (V m c main_v0 : Vec Ideal S85x96 .f32) (ix2 o k) = weight (m ((c : Thread nD τ).loc main_arg1))
      (m ((c : Thread nD τ).loc main_arg3)) (m ((c : Thread nD τ).loc main_arg5)) o k := by
  rw [weights_eq]
  generalize m ((c : Thread nD τ).loc main_arg1) = ws
  generalize m ((c : Thread nD τ).loc main_arg3) = wc
  generalize m ((c : Thread nD τ).loc main_arg5) = wb
  unfold weight
  pointwise
  by_cases h1 : o.val < 1
  · obtain rfl : o = 0 := Fin.ext (by simpa using h1)
    rfl
  · by_cases h2 : o.val < 81
    · rw [dif_neg h1, dif_pos (by omega), if_neg h1, dif_pos h2]
    · rw [dif_neg h1, dif_neg (by omega), if_neg h1, dif_neg h2]
      exact congrArg (fun i => wb (ix2 i k)) (Fin.ext (by show _ - 1 - 80 = _; rw [Nat.sub_sub]))

/-- The stacked biases at an index. -/
theorem bias_apply (c : Dev nD) (o : Fin 85) :
    (V m c main_v2 : Vec Ideal S85x1 .f32) (ix2 o 0) = bias (m ((c : Thread nD τ).loc main_arg2))
      (m ((c : Thread nD τ).loc main_arg4)) (m ((c : Thread nD τ).loc main_arg6)) o := by
  rw [bias_eq]
  generalize m ((c : Thread nD τ).loc main_arg2) = bs
  generalize m ((c : Thread nD τ).loc main_arg4) = bc
  generalize m ((c : Thread nD τ).loc main_arg6) = bb
  unfold bias
  pointwise
  by_cases h1 : o.val < 1
  · obtain rfl : o = 0 := Fin.ext (by simpa using h1)
    rfl
  · by_cases h2 : o.val < 81
    · rw [dif_neg h1, dif_pos (by omega), if_neg h1, dif_pos h2]
    · rw [dif_neg h1, dif_neg (by omega), if_neg h1, dif_neg h2]
      exact congrArg (fun i => bb (ix1 i)) (Fin.ext (by show _ - 1 - 80 = _; rw [Nat.sub_sub]))

/-- The flattened images at an index: pixel `128 r + s` is row `r`, column `s`. -/
theorem images_apply (c : Dev nD) (n : Fin 16) (k : Fin 96) (r s : Fin 128) (q : Fin 16384) (hq : q.val = r.val * 128 + s.val) :
    (V m c main_v3 : Vec Ideal S16x96x16384 .f32) (ix3 n k q) = m ((c : Thread nD τ).loc main_arg0) (ix4 n k r s) := by
  rw [images_eq]
  generalize m ((c : Thread nD τ).loc main_arg0) = x
  refine shapeCast_apply (s := S16x96x128x128) x _ _ (ix4 n k r s) ?_
  rw [Shape.rowMajor_val_three, Shape.rowMajor_val_four]
  simp only [ix3_0, ix3_1, ix3_2, ix4_0, ix4_1, ix4_2, ix4_3]
  simp
  omega

/-- **The kernel's result at an index** is the head's. -/
theorem result_apply (c : Dev nD) (n : Fin 16) (o : Fin 85) (r s : Fin 128) :
    (Pipeline.afterTail₀ cfgs (dats m) 0 (V0 m) [hostOps1] c main_v5 : Vec Ideal S16x85x128x128 .f32) (ix4 n o r s)
      = head (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n o r s := by
  have hr := r.isLt
  have hs := s.isLt
  obtain ⟨q, hq⟩ : ∃ q : Fin 16384, q.val = r.val * 128 + s.val := ⟨⟨r.val * 128 + s.val, by omega⟩, rfl⟩
  rw [result_eq]
  refine (shapeCast_apply (s := S16x85x16384) _ _ _ (ix3 n o q) ?_).trans ?_
  · rw [Shape.rowMajor_val_three, Shape.rowMajor_val_four]
    simp only [ix3_0, ix3_1, ix3_2, ix4_0, ix4_1, ix4_2, ix4_3]
    simp
    omega
  unfold flat head
  simp only [ix3_0, ix3_1, ix3_2]
  rw [show q.val % 128 = s.val by omega, show q.val / 128 = r.val by omega]
  refine congrArg (act s.val r.val o.val) (congrArg₂ (· + ·) ?_ (bias_apply m c o))
  exact Finset.sum_congr rfl fun k _ => congrArg₂ (· * ·) (weights_apply m c o k) (images_apply m c n k r s q hq)

end Cert.KernelIdeal.Entry

end
-- ==== Proof.RefRead.lean ====
/-
  WHAT THE REFERENCE COMPUTES: its one result, read at image `n`, channel `o`, row `r`, column `c`, is `Head.head` of the
  seven arguments. The reference makes the three convolutions separately, applies the box functions to the box group's four
  channels one at a time, stacks those, and concatenates scores, classes and boxes; each step is read at an index here.
-/
module

public import proofs.«01_k».proof.Proof.Gen.ReferenceIdeal.Read
public import proofs.«01_k».proof.Proof.Head

@[expose] public section

noncomputable section

namespace Cert.ReferenceIdeal.RefRead

open Idealize.ShloMosaic Idealize.SL.Sem
open Cert.ReferenceIdeal Cert.ReferenceIdeal.Read Cert.Head

variable (x : (⟨S16x96x128x128, .f32⟩ : BufTy).Contents (Elt Ideal))
  (ws : (⟨S1x96, .f32⟩ : BufTy).Contents (Elt Ideal)) (bs : (⟨S1, .f32⟩ : BufTy).Contents (Elt Ideal))
  (wc : (⟨S80x96, .f32⟩ : BufTy).Contents (Elt Ideal)) (bc : (⟨S80, .f32⟩ : BufTy).Contents (Elt Ideal))
  (wb : (⟨S4x96, .f32⟩ : BufTy).Contents (Elt Ideal)) (bb : (⟨S4, .f32⟩ : BufTy).Contents (Elt Ideal))

/-- The word of a coordinate below 128, converted to a float, is the coordinate. -/
theorem coord_real (n : Fin 128) : FloatOps.sitofp (F := Ideal) .f32 (BitVec.ofNat 32 n.val) = ((n.val : ℝ) : EReal) := by
  have hn := n.isLt
  have h : (BitVec.ofNat 32 n.val).toNat = n.val := by rw [BitVec.toNat_ofNat]; omega
  show (((BitVec.ofNat 32 n.val).toInt : ℝ) : EReal) = _
  rw [BitVec.toInt_eq_toNat_of_lt (by rw [h]; omega), h]
  norm_cast

/-- The score convolution with its bias. -/
theorem score_apply (n : Fin 16) (r c : Fin 128) :
    val_main_v50 (F := Ideal) x ws bs (ix4 n 0 r c) = ∑ k : Fin 96, ws (ix2 0 k) * x (ix4 n k r c) + bs (ix1 0) := by
  pointwise [val_main_v50, val_main_v49, val_main_v48, val_main_v47, val_main_v46,
    dot_S1x96_S16x96x128x128_S1x16x128x128_1_1_0_023_n_n]

/-- The class convolution with its bias. -/
theorem class_apply (n : Fin 16) (o : Fin 80) (r c : Fin 128) :
    val_main_v55 (F := Ideal) x wc bc (ix4 n o r c) = ∑ k : Fin 96, wc (ix2 o k) * x (ix4 n k r c) + bc (ix1 o) := by
  pointwise [val_main_v55, val_main_v54, val_main_v53, val_main_v52, val_main_v51,
    dot_S80x96_S16x96x128x128_S80x16x128x128_1_1_0_023_n_n]

/-- The box convolution with its bias. -/
theorem box_apply (n : Fin 16) (o : Fin 4) (r c : Fin 128) :
    val_main_v8 (F := Ideal) x wb bb (ix4 n o r c) = ∑ k : Fin 96, wb (ix2 o k) * x (ix4 n k r c) + bb (ix1 o) := by
  pointwise [val_main_v8, val_main_v7, val_main_v6, val_main_v5, val_main_v4,
    dot_S4x96_S16x96x128x128_S4x16x128x128_1_1_0_023_n_n]

/-- The first box centre: the logistic function of the column times box channel 0. -/
theorem centre_col_apply (n : Fin 16) (r c : Fin 128) : val_main_v19 (F := Ideal) x wb bb (ix3 n r c)
    = Ideal.logistic (((c.val : ℝ) : EReal) * val_main_v8 (F := Ideal) x wb bb (ix4 n 0 r c)) := by
  pointwise [val_main_v19, val_main_v18, val_main_v17, val_main_v16, val_main_v15, val_main_v14, val_main_v13,
    val_main_v12, val_main_v11, val_main_v10, val_main_v9, val_main_v1, val_main_v0, val_main_cst, val_main_cst_0]
  rw [coord_real]
  rfl

/-- The second box centre: the logistic function of the row times box channel 1. -/
theorem centre_row_apply (n : Fin 16) (r c : Fin 128) : val_main_v30 (F := Ideal) x wb bb (ix3 n r c)
    = Ideal.logistic (((r.val : ℝ) : EReal) * val_main_v8 (F := Ideal) x wb bb (ix4 n 1 r c)) := by
  pointwise [val_main_v30, val_main_v29, val_main_v28, val_main_v27, val_main_v26, val_main_v25, val_main_v24,
    val_main_v23, val_main_v22, val_main_v21, val_main_v20, val_main_v3, val_main_v2, val_main_cst_1, val_main_cst_2]
  rw [coord_real]
  rfl

/-- The first box size: 32 times the exponential of box channel 2. -/
theorem size_w_apply (n : Fin 16) (r c : Fin 128) : val_main_v35 (F := Ideal) x wb bb (ix3 n r c)
    = ((32 : ℝ) : EReal) * Ideal.exp (val_main_v8 (F := Ideal) x wb bb (ix4 n 2 r c)) := by
  rw [← ofBits_32]
  pointwise [val_main_v35, val_main_v34, val_main_v33, val_main_v32, val_main_v31, val_main_cst_3]

/-- The second box size: 32 times the exponential of box channel 3. -/
theorem size_h_apply (n : Fin 16) (r c : Fin 128) : val_main_v40 (F := Ideal) x wb bb (ix3 n r c)
    = ((32 : ℝ) : EReal) * Ideal.exp (val_main_v8 (F := Ideal) x wb bb (ix4 n 3 r c)) := by
  rw [← ofBits_32]
  pointwise [val_main_v40, val_main_v39, val_main_v38, val_main_v37, val_main_v36, val_main_cst_4]

/-- **The reference's result at an index** is the head's. -/
theorem result_apply (n : Fin 16) (o : Fin 85) (r c : Fin 128) :
    val_main_v56 (F := Ideal) x ws bs wc bc wb bb (ix4 n o r c) = head x ws bs wc bc wb bb n o r c := by
  unfold head
  obtain ⟨o, ho⟩ := o
  rcases (by omega : o = 0 ∨ (1 ≤ o ∧ o < 81) ∨ o = 81 ∨ o = 82 ∨ o = 83 ∨ o = 84) with
    rfl | ⟨h1, h2⟩ | rfl | rfl | rfl | rfl
  · pointwise [val_main_v56]
    rw [act_plain _ _ _ (by decide)]
    exact score_apply x ws bs n r c
  · pointwise [val_main_v56]
    rw [dif_neg (by omega), dif_pos (by omega), act_plain _ _ _ h2, class_apply]
    unfold weight bias
    simp only [if_neg (by omega : ¬ o < 1), dif_pos h2]
  · pointwise [val_main_v56, val_main_v45, val_main_v41]
    rw [act_col, centre_col_apply, box_apply]
    rfl
  · pointwise [val_main_v56, val_main_v45, val_main_v42]
    rw [act_row, centre_row_apply, box_apply]
    rfl
  · pointwise [val_main_v56, val_main_v45, val_main_v43]
    rw [act_size _ _ _ (by decide), size_w_apply, box_apply]
    rfl
  · pointwise [val_main_v56, val_main_v45, val_main_v44]
    rw [act_size _ _ _ (by decide), size_h_apply, box_apply]
    rfl

end Cert.ReferenceIdeal.RefRead

end
-- ==== Proof.lean ====
/-
  THE CERTIFICATE. The five claims of Defs.lean, assembled: the kernel, its ideal reading and the reference each run to an
  end with their arguments unchanged and every semaphore counter at zero; the ideal reading rewrites no operation; and at
  exact arithmetic the kernel and the reference end with equal results. For the last: the kernel's result at image `n`,
  channel `o`, row `s`, column `t` is `Head.head` of the arguments (Proof/Entry.lean), and so is the reference's
  (Proof/RefRead.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Entry
public import proofs.«01_k».proof.Proof.RefRead
public import Idealize.ShloMosaic.Lib.Quiescent
public import Idealize.ShloMosaic.Adequacy
public import Idealize.ShloMosaic.Init

@[expose] public section

noncomputable section

namespace Cert.Proof

open Idealize.ShloMosaic Idealize.SL.Sem

/-- The common result on device `c`, as one array: `Head.head` of the seven arguments as launched. -/
def value (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v5) :=
  fun i : Cert.KernelIdeal.S16x85x128x128.Idx => Cert.Head.head
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (i 0) (i 1) (i 2) (i 3)

/-- The reference ends with every semaphore counter at zero and its arguments unchanged. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- **The kernel and the reference end with the same result**: both end with `value` of the arguments. -/
theorem equal : Cert.algebraic_KernelIdeal_ReferenceIdeal (hKernelIdeal := Cert.KernelIdeal.Gen.facts)
    (hReferenceIdeal := Cert.ReferenceIdeal.Gen.facts) := by
  intro m g m' g' _ hargs
  refine ⟨value m, ?_, ?_⟩
  · refine (θ_run Cert.KernelIdeal.defs _ _).mono ?_
      (θ_run_and (Cert.KernelIdeal.Gen.run_main (F := Ideal) m g) (Cert.KernelIdeal.Gen.unchanged (F := Ideal) m g))
    rintro r ⟨h, hu⟩ c
    refine ⟨((h c).2 Cert.KernelIdeal.main_v5 (Pipeline.mem_restRefs_of _ (by decide) (by decide))).trans ?_, hu c⟩
    funext i
    obtain ⟨n, o, s, t, rfl⟩ : ∃ n : Fin 16, ∃ o : Fin 85, ∃ s t : Fin 128, i = ix4 n o s t :=
      ⟨i 0, i 1, i 2, i 3, eq_ix4 i⟩
    exact Cert.KernelIdeal.Entry.result_apply m c n o s t
  · refine (θ_run Cert.ReferenceIdeal.defs _ _).mono ?_ (Cert.ReferenceIdeal.Value.run (F := Ideal) m' g')
    intro r h c
    refine ⟨(h c).1.trans ?_, (h c).2⟩
    rw [Cert.ReferenceIdeal.Read.val_main_v56_eq]
    obtain ⟨h0, h1, h2, h3, h4, h5, h6⟩ := hargs c
    funext i
    obtain ⟨n, o, s, t, rfl⟩ : ∃ n : Fin 16, ∃ o : Fin 85, ∃ s t : Fin 128, i = ix4 n o s t :=
      ⟨i 0, i 1, i 2, i 3, eq_ix4 i⟩
    refine (Cert.ReferenceIdeal.RefRead.result_apply _ _ _ _ _ _ _ n o s t).trans ?_
    rw [h0, h1, h2, h3, h4, h5, h6]
    rfl

/-- **The certificate**: all five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial, equal⟩

end Cert.Proof

end
